-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.sign_bit.Statement Cert.KernelIdeal.S256x256 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x32 : Shape := ⟨2, ![4096, 32]⟩
abbrev S16x2x15 : Shape := ⟨3, ![16, 2, 15]⟩
abbrev S30x256 : Shape := ⟨2, ![30, 256]⟩
abbrev S16x15 : Shape := ⟨2, ![16, 15]⟩
abbrev S8x256x1000 : Shape := ⟨3, ![8, 256, 1000]⟩
abbrev S8x2x2x15 : Shape := ⟨4, ![8, 2, 2, 15]⟩
abbrev S32x32 : Shape := ⟨2, ![32, 32]⟩
abbrev S_ : Shape := ⟨0, ![]⟩
abbrev S8x2x2x32 : Shape := ⟨4, ![8, 2, 2, 32]⟩
abbrev S8x2x15x32 : Shape := ⟨4, ![8, 2, 15, 32]⟩
abbrev S8x30x32 : Shape := ⟨3, ![8, 30, 32]⟩
abbrev S8x32x32 : Shape := ⟨3, ![8, 32, 32]⟩
abbrev S256x32 : Shape := ⟨2, ![256, 32]⟩
abbrev S8x30 : Shape := ⟨2, ![8, 30]⟩
abbrev S8x32 : Shape := ⟨2, ![8, 32]⟩
abbrev S256x1 : Shape := ⟨2, ![256, 1]⟩
abbrev S8x1000x256 : Shape := ⟨3, ![8, 1000, 256]⟩
abbrev S32x4096 : Shape := ⟨2, ![32, 4096]⟩
abbrev S8x1000x4096 : Shape := ⟨3, ![8, 1000, 4096]⟩
abbrev S32x256 : Shape := ⟨2, ![32, 256]⟩
abbrev S1x1000x256 : Shape := ⟨3, ![1, 1000, 256]⟩
abbrev S1000x256 : Shape := ⟨2, ![1000, 256]⟩
abbrev S256x256 : Shape := ⟨2, ![256, 256]⟩
abbrev S256 : Shape := ⟨1, ![256]⟩
abbrev S1x256 : Shape := ⟨2, ![1, 256]⟩
abbrev S4096x8x1000 : Shape := ⟨3, ![4096, 8, 1000]⟩

abbrev nBuf : Space → Nat
  | .hbm => 29
  | .vmem => 9
  | .smem => 0
  | _ => 0

abbrev bufTy : (tb : Table) → Fin (tcTables nBuf tb) → BufTy
  | .hbm, ⟨0, _⟩ => ⟨S4096x32, .f32⟩
  | .hbm, ⟨1, _⟩ => ⟨S16x2x15, .f32⟩
  | .hbm, ⟨2, _⟩ => ⟨S30x256, .f32⟩
  | .hbm, ⟨3, _⟩ => ⟨S16x15, .f32⟩
  | .hbm, ⟨4, _⟩ => ⟨S8x256x1000, .f32⟩
  | .hbm, ⟨5, _⟩ => ⟨S8x2x2x15, .f32⟩
  | .hbm, ⟨6, _⟩ => ⟨S32x32, .i32⟩
  | .hbm, ⟨7, _⟩ => ⟨S32x32, .i32⟩
  | .hbm, ⟨8, _⟩ => ⟨S_, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S32x32, .f32⟩
  | .hbm, ⟨13, _⟩ => ⟨S8x2x2x32, .f32⟩
  | .hbm, ⟨14, _⟩ => ⟨S8x2x15x32, .f32⟩
  | .hbm, ⟨15, _⟩ => ⟨S8x30x32, .f32⟩
  | .hbm, ⟨16, _⟩ => ⟨S_, .i32⟩
  | .hbm, ⟨17, _⟩ => ⟨S_, .f32⟩
  | .hbm, ⟨18, _⟩ => ⟨S8x32x32, .f32⟩
  | .hbm, ⟨19, _⟩ => ⟨S256x32, .f32⟩
  | .hbm, ⟨20, _⟩ => ⟨S8x30, .f32⟩
  | .hbm, ⟨21, _⟩ => ⟨S_, .i32⟩
  | .hbm, ⟨22, _⟩ => ⟨S_, .f32⟩
  | .hbm, ⟨23, _⟩ => ⟨S8x32, .f32⟩
  | .hbm, ⟨24, _⟩ => ⟨S256x1, .f32⟩
  | .hbm, ⟨25, _⟩ => ⟨S8x1000x256, .f32⟩
  | .hbm, ⟨26, _⟩ => ⟨S32x4096, .f32⟩
  | .hbm, ⟨27, _⟩ => ⟨S8x1000x4096, .f32⟩
  | .hbm, ⟨28, _⟩ => ⟨S4096x8x1000, .f32⟩
  | .local _ .vmem, ⟨0, _⟩ => ⟨S32x256, .f32⟩
  | .local _ .vmem, ⟨1, _⟩ => ⟨S32x256, .f32⟩
  | .local _ .vmem, ⟨2, _⟩ => ⟨S256x32, .f32⟩
  | .local _ .vmem, ⟨3, _⟩ => ⟨S256x1, .f32⟩
  | .local _ .vmem, ⟨4, _⟩ => ⟨S30x256, .f32⟩
  | .local _ .vmem, ⟨5, _⟩ => ⟨S8x1000x256, .f32⟩
  | .local _ .vmem, ⟨6, _⟩ => ⟨S8x1000x256, .f32⟩
  | .local _ .vmem, ⟨7, _⟩ => ⟨S8x1000x256, .f32⟩
  | .local _ .vmem, ⟨8, _⟩ => ⟨S8x1000x256, .bf16⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S4096x32 : Shape := ⟨2, ![4096, 32]⟩
abbrev S16x2x15 : Shape := ⟨3, ![16, 2, 15]⟩
abbrev S30x256 : Shape := ⟨2, ![30, 256]⟩
abbrev S16x15 : Shape := ⟨2, ![16, 15]⟩
abbrev S8x256x1000 : Shape := ⟨3, ![8, 256, 1000]⟩
abbrev S4096x16x2 : Shape := ⟨3, ![4096, 16, 2]⟩
abbrev S16x15x4096 : Shape := ⟨3, ![16, 15, 4096]⟩
abbrev S4096x16x15 : Shape := ⟨3, ![4096, 16, 15]⟩
abbrev S1x16x15 : Shape := ⟨3, ![1, 16, 15]⟩
abbrev S_ : Shape := ⟨0, ![]⟩
abbrev S4096x8x2x15 : Shape := ⟨4, ![4096, 8, 2, 15]⟩
abbrev S4096x8x30 : Shape := ⟨3, ![4096, 8, 30]⟩
abbrev S4096x8x256 : Shape := ⟨3, ![4096, 8, 256]⟩
abbrev S4096x8 : Shape := ⟨2, ![4096, 8]⟩
abbrev S4096x8x1 : Shape := ⟨3, ![4096, 8, 1]⟩
abbrev S1x1x256 : Shape := ⟨3, ![1, 1, 256]⟩
abbrev S8x1000x4096 : Shape := ⟨3, ![8, 1000, 4096]⟩
abbrev S4096x8x1000 : Shape := ⟨3, ![4096, 8, 1000]⟩

abbrev nBuf : Space → Nat
  | .hbm => 34
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S16x2x15, .f32⟩
  | .hbm, ⟨2, _⟩ => ⟨S30x256, .f32⟩
  | .hbm, ⟨3, _⟩ => ⟨S16x15, .f32⟩
  | .hbm, ⟨4, _⟩ => ⟨S8x256x1000, .f32⟩
  | .hbm, ⟨5, _⟩ => ⟨S4096x16x2, .f32⟩
  | .hbm, ⟨6, _⟩ => ⟨S16x15x4096, .f32⟩
  | .hbm, ⟨7, _⟩ => ⟨S4096x16x15, .f32⟩
  | .hbm, ⟨8, _⟩ => ⟨S1x16x15, .f32⟩
  | .hbm, ⟨9, _⟩ => ⟨S4096x16x15, .f32⟩
  | .hbm, ⟨10, _⟩ => ⟨S4096x16x15, .f32⟩
  | .hbm, ⟨11, _⟩ => ⟨S_, .f32⟩
  | .hbm, ⟨12, _⟩ => ⟨S4096x16x15, .f32⟩
  | .hbm, ⟨13, _⟩ => ⟨S4096x16x15, .f32⟩
  | .hbm, ⟨14, _⟩ => ⟨S4096x16x15, .f32⟩
  | .hbm, ⟨15, _⟩ => ⟨S4096x16x15, .f32⟩
  | .hbm, ⟨16, _⟩ => ⟨S4096x16x15, .f32⟩
  | .hbm, ⟨17, _⟩ => ⟨S4096x16x15, .f32⟩
  | .hbm, ⟨18, _⟩ => ⟨S4096x8x2x15, .f32⟩
  | .hbm, ⟨19, _⟩ => ⟨S4096x8x30, .f32⟩
  | .hbm, ⟨20, _⟩ => ⟨S4096x8x256, .f32⟩
  | .hbm, ⟨21, _⟩ => ⟨S4096x8x256, .i32⟩
  | .hbm, ⟨22, _⟩ => ⟨S_, .f32⟩
  | .hbm, ⟨23, _⟩ => ⟨S_, .i32⟩
  | .hbm, ⟨24, _⟩ => ⟨S4096x8, .f32⟩
  | .hbm, ⟨25, _⟩ => ⟨S4096x8, .i32⟩
  | .hbm, ⟨26, _⟩ => ⟨S4096x8x1, .i32⟩
  | .hbm, ⟨27, _⟩ => ⟨S1x1x256, .i32⟩
  | .hbm, ⟨28, _⟩ => ⟨S4096x8x256, .i32⟩
  | .hbm, ⟨29, _⟩ => ⟨S4096x8x256, .i32⟩
  | .hbm, ⟨30, _⟩ => ⟨S4096x8x256, .i1⟩
  | .hbm, ⟨31, _⟩ => ⟨S4096x8x256, .f32⟩
  | .hbm, ⟨32, _⟩ => ⟨S8x1000x4096, .f32⟩
  | .hbm, ⟨33, _⟩ => ⟨S4096x8x1000, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v15 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Proof.FirstMax.lean ====
/- The first position at which a family of 256 extended reals takes its greatest value, and two ways of computing it:
   folding the pairs (value, position) under the comparison that an argmax uses, and taking the least position among
   those whose value equals the maximum. -/
module

public import Idealize.ShloMosaic.Lib.Pointwise
public import proofs.«01_k».proof.Proof.Gen.ReferenceIdeal

@[expose] public section

noncomputable section

open Idealize.ShloMosaic

namespace Cert.FirstMax

/-- `k` is the first position at which `f` takes its greatest value. -/
def IsFirst (f : Fin 256 → EReal) (k : Fin 256) : Prop := (∀ l, f l ≤ f k) ∧ ∀ l, f l = f k → k ≤ l

/-- Every family has such a position. -/
theorem exists_isFirst (f : Fin 256 → EReal) : ∃ k, IsFirst f k := by
  obtain ⟨k₀, -, h₀⟩ := Finset.exists_max_image (Finset.univ : Finset (Fin 256)) f ⟨0, Finset.mem_univ _⟩
  obtain ⟨k, hk, hmin⟩ := Finset.exists_min_image (Finset.univ.filter fun l => f l = f k₀) id ⟨k₀, by simp⟩
  rw [Finset.mem_filter] at hk
  refine ⟨k, fun l => hk.2 ▸ h₀ l (Finset.mem_univ l), fun l hl => hmin l ?_⟩
  rw [Finset.mem_filter]
  exact ⟨Finset.mem_univ l, hl.trans hk.2⟩

/-- The first position of the maximum. -/
def first (f : Fin 256 → EReal) : Fin 256 := Classical.choose (exists_isFirst f)

/-- The chosen position is the first position of the maximum. -/
theorem first_spec (f : Fin 256 → EReal) : IsFirst f (first f) := Classical.choose_spec (exists_isFirst f)

/-- The word of a position, read as a signed number, is the position. -/
theorem toInt_word (k : Fin 256) : (BitVec.ofNat 32 k.val).toInt = (k.val : ℤ) := by
  have := k.isLt
  rw [BitVec.toInt_eq_toNat_cond, BitVec.toNat_ofNat, Nat.mod_eq_of_lt (by omega), if_pos (by omega)]

/-- Words of positions are equal only when the positions are. -/
theorem word_inj {k l : Fin 256} (h : BitVec.ofNat 32 k.val = BitVec.ofNat 32 l.val) : k = l := by
  have := congrArg BitVec.toInt h
  rw [toInt_word, toInt_word] at this
  exact Fin.ext (by exact_mod_cast this)

/-! ## The argmax fold -/

/-- The pair `a` is at least as good as the pair `b`: its value is greater, or the values agree and its position is not
    later. -/
def Good (a b : EReal × BitVec 32) : Prop := b.1 < a.1 ∨ (b.1 = a.1 ∧ a.2.toInt ≤ b.2.toInt)

/-- Every pair is at least as good as itself. -/
theorem Good.refl (a : EReal × BitVec 32) : Good a a := .inr ⟨rfl, le_rfl⟩

/-- Being at least as good is transitive. -/
theorem Good.trans {a b c : EReal × BitVec 32} (h : Good a b) (h' : Good b c) : Good a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- The reference's comparison returns one of its two pairs. -/
theorem step_mem (a b : EReal × BitVec 32) :
    Cert.ReferenceIdeal.reducer_argmax_f32_i32 (F := Ideal) a b = a
      ∨ Cert.ReferenceIdeal.reducer_argmax_f32_i32 (F := Ideal) a b = b := by
  obtain ⟨v, i⟩ := a
  obtain ⟨w, j⟩ := b
  rcases lt_trichotomy w v with h | h | h
  · left; simp [Cert.ReferenceIdeal.reducer_argmax_f32_i32, Ideal.cmpf_def, Ideal.cmp, h, h.ne', Scalar.select, IntOp.ori, IntOp.andi]
  · subst h
    by_cases hs : i.slt j
    · left; simp [Cert.ReferenceIdeal.reducer_argmax_f32_i32, Ideal.cmpf_def, Ideal.cmp, Scalar.select, IntOp.ori, IntOp.andi, IntOp.cmpi, hs]
    · right; simp [Cert.ReferenceIdeal.reducer_argmax_f32_i32, Ideal.cmpf_def, Ideal.cmp, Scalar.select, IntOp.ori, IntOp.andi, IntOp.cmpi, hs]
  · right; simp [Cert.ReferenceIdeal.reducer_argmax_f32_i32, Ideal.cmpf_def, Ideal.cmp, Scalar.select, IntOp.ori, IntOp.andi, h.not_gt, h.ne]

/-- … and the pair it returns is at least as good as both. -/
theorem step_good (a b : EReal × BitVec 32) :
    Good (Cert.ReferenceIdeal.reducer_argmax_f32_i32 (F := Ideal) a b) a
      ∧ Good (Cert.ReferenceIdeal.reducer_argmax_f32_i32 (F := Ideal) a b) b := by
  obtain ⟨v, i⟩ := a
  obtain ⟨w, j⟩ := b
  rcases lt_trichotomy w v with h | h | h
  · have e : Cert.ReferenceIdeal.reducer_argmax_f32_i32 (F := Ideal) (v, i) (w, j) = (v, i) := by
      simp [Cert.ReferenceIdeal.reducer_argmax_f32_i32, Ideal.cmpf_def, Ideal.cmp, h, h.ne', Scalar.select, IntOp.ori, IntOp.andi]
    rw [e]; exact ⟨.refl _, .inl h⟩
  · subst h
    by_cases hs : i.slt j
    · have e : Cert.ReferenceIdeal.reducer_argmax_f32_i32 (F := Ideal) (w, i) (w, j) = (w, i) := by
        simp [Cert.ReferenceIdeal.reducer_argmax_f32_i32, Ideal.cmpf_def, Ideal.cmp, Scalar.select, IntOp.ori, IntOp.andi, IntOp.cmpi, hs]
      rw [e]; exact ⟨.refl _, .inr ⟨rfl, (BitVec.slt_iff_toInt_lt.mp hs).le⟩⟩
    · have e : Cert.ReferenceIdeal.reducer_argmax_f32_i32 (F := Ideal) (w, i) (w, j) = (w, j) := by
        simp [Cert.ReferenceIdeal.reducer_argmax_f32_i32, Ideal.cmpf_def, Ideal.cmp, Scalar.select, IntOp.ori, IntOp.andi, IntOp.cmpi, hs]
      rw [e]; exact ⟨.inr ⟨rfl, not_lt.mp fun h => hs (BitVec.slt_iff_toInt_lt.mpr h)⟩, .refl _⟩
  · have e : Cert.ReferenceIdeal.reducer_argmax_f32_i32 (F := Ideal) (v, i) (w, j) = (w, j) := by
      simp [Cert.ReferenceIdeal.reducer_argmax_f32_i32, Ideal.cmpf_def, Ideal.cmp, Scalar.select, IntOp.ori, IntOp.andi, h.not_gt, h.ne]
    rw [e]; exact ⟨.inl h, .refl _⟩

/-- The fold of the comparison over a list of pairs ends at the initial pair or at a pair of the list, and that pair is at
    least as good as all of them. -/
theorem fold_good (L : List (EReal × BitVec 32)) : ∀ a : EReal × BitVec 32,
    (L.foldl (Cert.ReferenceIdeal.reducer_argmax_f32_i32 (F := Ideal)) a = a
        ∨ L.foldl (Cert.ReferenceIdeal.reducer_argmax_f32_i32 (F := Ideal)) a ∈ L)
      ∧ Good (L.foldl (Cert.ReferenceIdeal.reducer_argmax_f32_i32 (F := Ideal)) a) a
      ∧ ∀ p ∈ L, Good (L.foldl (Cert.ReferenceIdeal.reducer_argmax_f32_i32 (F := Ideal)) a) p := by
  induction L with
  | nil => exact fun a => ⟨.inl rfl, .refl a, fun p hp => absurd hp List.not_mem_nil⟩
  | cons q L ih =>
    intro a
    rw [List.foldl_cons]
    obtain ⟨hm, hg, hL⟩ := ih (Cert.ReferenceIdeal.reducer_argmax_f32_i32 (F := Ideal) a q)
    obtain ⟨ha, hq⟩ := step_good a q
    refine ⟨?_, hg.trans ha, fun p hp => ?_⟩
    · rcases hm with hm | hm
      · rcases step_mem a q with e | e
        · exact .inl (hm.trans e)
        · exact .inr (by rw [hm, e]; exact List.mem_cons_self)
      · exact .inr (List.mem_cons_of_mem _ hm)
    · rcases List.mem_cons.mp hp with rfl | hp
      · exact hg.trans hq
      · exact hL p hp

/-- Over a list that holds exactly the pairs of a family, and from the least value at position 0, the fold ends at the
    first position of the maximum. -/
theorem fold_eq_first (f : Fin 256 → EReal) (L : List (EReal × BitVec 32))
    (hL : ∀ p, p ∈ L ↔ ∃ k : Fin 256, p = (f k, BitVec.ofNat 32 k.val)) :
    (L.foldl (Cert.ReferenceIdeal.reducer_argmax_f32_i32 (F := Ideal)) (⊥, 0#32)).2 = BitVec.ofNat 32 (first f).val := by
  obtain ⟨hm, -, hg⟩ := fold_good L (⊥, 0#32)
  obtain ⟨hmax, hfirst⟩ := first_spec f
  have hk := hg (f (first f), BitVec.ofNat 32 (first f).val) ((hL _).mpr ⟨_, rfl⟩)
  rcases hm with hm | hm
  · rw [hm] at hk ⊢
    rcases hk with hk | ⟨hk, -⟩
    · exact absurd hk not_lt_bot
    · have h0 : first f ≤ 0 := hfirst 0 (le_antisymm (hmax 0) (show f (first f) ≤ f 0 from (show f (first f) = ⊥ from hk) ▸ bot_le))
      have : first f = 0 := le_antisymm h0 (Fin.zero_le _)
      rw [this]; rfl
  · obtain ⟨k, e⟩ := (hL _).mp hm
    rw [e] at hk ⊢
    rcases hk with hk | ⟨hk, hi⟩
    · exact absurd hk (not_lt.mpr (hmax k))
    · have h1 : first f ≤ k := hfirst k hk.symm
      have h2 : k ≤ first f := by
        rw [toInt_word, toInt_word] at hi
        exact Fin.le_def.mpr (by exact_mod_cast hi)
      rw [le_antisymm h2 h1]

/-! ## The least position among those of the maximum -/

/-- A fold of the signed minimum that some element `v` bounds from below, where `v` is met, ends at `v`. -/
theorem fold_minsi_eq (g : Fin 256 → BitVec 32) (b v : BitVec 32) (hb : v.toInt ≤ b.toInt)
    (hle : ∀ k, v.toInt ≤ (g k).toInt) (k₀ : Fin 256) (hk₀ : g k₀ = v) :
    (Finset.univ : Finset (Fin 256)).fold IntOp.minsi b g = v := by
  have hmin : ∀ x y : BitVec 32, (IntOp.minsi x y).toInt = min x.toInt y.toInt := by
    intro x y
    unfold IntOp.minsi
    by_cases h : x.slt y
    · have := BitVec.slt_iff_toInt_lt.mp h
      simp [h]; omega
    · have : ¬ x.toInt < y.toInt := fun h' => h (BitVec.slt_iff_toInt_lt.mpr h')
      simp [h]; omega
  have key : ∀ s : Finset (Fin 256), v.toInt ≤ (s.fold IntOp.minsi b g).toInt
      ∧ ∀ k ∈ s, (s.fold IntOp.minsi b g).toInt ≤ (g k).toInt := by
    intro s
    induction s using Finset.cons_induction with
    | empty => exact ⟨hb, fun k hk => absurd hk (Finset.notMem_empty k)⟩
    | cons a s ha ih =>
      rw [Finset.fold_cons, hmin]
      refine ⟨le_min (hle a) ih.1, fun k hk => ?_⟩
      rcases Finset.mem_cons.mp hk with rfl | hk
      · exact min_le_left _ _
      · exact (min_le_right _ _).trans (ih.2 k hk)
  have h := key Finset.univ
  exact BitVec.eq_of_toInt_eq (le_antisymm (hk₀ ▸ h.2 k₀ (Finset.mem_univ _)) h.1)

/-- The maximum of a family, folded from the least value, is the value at its first position. -/
theorem fold_max_eq (f : Fin 256 → EReal) :
    (Finset.univ : Finset (Fin 256)).fold max (⊥ : EReal) f = f (first f) := by
  refine le_antisymm ?_ ?_
  · exact Finset.fold_max_le _ |>.mpr ⟨bot_le, fun k _ => (first_spec f).1 k⟩
  · exact Finset.le_fold_max _ |>.mpr (.inr ⟨first f, Finset.mem_univ _, le_rfl⟩)

/-- The least position whose value is the maximum, with 256 standing for the positions whose value is not, is the first
    position of the maximum. -/
theorem fold_min_eq (f : Fin 256 → EReal) (g : Fin 256 → BitVec 32)
    (hg : ∀ k, g k = if f k = f (first f) then BitVec.ofNat 32 k.val else 256#32) :
    (Finset.univ : Finset (Fin 256)).fold IntOp.minsi 2147483647#32 g = BitVec.ofNat 32 (first f).val := by
  have hlt := (first f).isLt
  refine fold_minsi_eq g _ _ ?_ (fun k => ?_) (first f) (by rw [hg, if_pos rfl])
  · rw [toInt_word, show (2147483647#32).toInt = 2147483647 from by decide]; omega
  · rw [toInt_word, hg k]
    split
    · rename_i h
      rw [toInt_word]
      exact_mod_cast Fin.le_def.mp ((first_spec f).2 k h)
    · rw [show (256#32).toInt = 256 from by decide]; omega

end Cert.FirstMax

end
-- ==== Proof.Spec.lean ====
/- The lookup as plain mathematics over the extended reals: what both programs compute, entry by entry. -/
module

public import proofs.«01_k».proof.Proof.FirstMax

@[expose] public section

noncomputable section

open Idealize.ShloMosaic

namespace Cert.Spec

/-- What stands under the sign: the projection of a row's pair of features `p` at bit `q`, less the threshold, less the small
    constant. -/
def arg (x : Fin 4096 → Fin 32 → EReal) (S : Fin 16 → Fin 2 → Fin 15 → EReal) (T : Fin 16 → Fin 15 → EReal)
    (b : Fin 4096) (p : Fin 16) (q : Fin 15) : EReal :=
  ∑ f : Fin 2, S p f q * x b ⟨p.val * 2 + f.val, by omega⟩ - T p q - Ideal.ofBits .f32 953267991#32

/-- The sign at position `d` of the 30 of group `c`. -/
def bit (x : Fin 4096 → Fin 32 → EReal) (S : Fin 16 → Fin 2 → Fin 15 → EReal) (T : Fin 16 → Fin 15 → EReal)
    (b : Fin 4096) (c : Fin 8) (d : Fin 30) : EReal :=
  Ideal.sign (arg x S T b ⟨c.val * 2 + d.val / 15, by omega⟩ ⟨d.val % 15, by omega⟩)

/-- The candidate row whose score is the greatest, the first of them where several are. -/
def winner (x : Fin 4096 → Fin 32 → EReal) (S : Fin 16 → Fin 2 → Fin 15 → EReal) (H : Fin 30 → Fin 256 → EReal)
    (T : Fin 16 → Fin 15 → EReal) (b : Fin 4096) (c : Fin 8) : Fin 256 :=
  Cert.FirstMax.first fun k => ∑ d : Fin 30, H d k * bit x S T b c d

/-- The result: the table of the group contracted with the one-hot row of the winner. -/
def value (x : Fin 4096 → Fin 32 → EReal) (S : Fin 16 → Fin 2 → Fin 15 → EReal) (H : Fin 30 → Fin 256 → EReal)
    (T : Fin 16 → Fin 15 → EReal) (L : Fin 8 → Fin 256 → Fin 1000 → EReal) (b : Fin 4096) (c : Fin 8) (o : Fin 1000) : EReal :=
  ∑ k : Fin 256, L c k o * (if winner x S H T b c = k then 1 else 0)

end Cert.Spec

end
-- ==== Proof.RefValue.lean ====
/- The reference's result as one term over its arguments, and what the term is at each index. -/
module

public import proofs.«01_k».proof.Proof.Gen.ReferenceIdeal
public import Idealize.ShloMosaic.Lib.Pointwise
public import Idealize.ShloMosaic.Lib.StableHlo.Run
public import proofs.«01_k».proof.Proof.Spec

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The reference's array before the sign is taken: the projections less the thresholds less the small constant. -/
def shifted (x : FVec Ideal S4096x32 .f32) (S : FVec Ideal S16x2x15 .f32) (T : FVec Ideal S16x15 .f32) :
    FVec Ideal S4096x16x15 .f32 :=
  subf
    (subf
      (transpose S4096x16x15 [2, 0, 1]
        (Host.dotGeneral dot_S16x2x15_S4096x16x2_S16x15x4096_1_2_2_0_0_1 none S
          (shapeCast S4096x16x2 x shapeCasts_S4096x32_S4096x16x2)) transposes_S16x15x4096_S4096x16x15_2_0_1)
      (broadcastInDim S4096x16x15 ![0, 1, 2] bcast_S1x16x15_S4096x16x15_0_1_2
        (broadcastInDim S1x16x15 ![1, 2] bcast_S16x15_S1x16x15_1_2 T)))
    (broadcastInDim S4096x16x15 ![] bcast_S_S4096x16x15 (constant S_ .f32 0x38D1B717#32))

/-- The reference's hash, a sign for each of the 30 bits of each of the eight groups. -/
def hash (x : FVec Ideal S4096x32 .f32) (S : FVec Ideal S16x2x15 .f32) (T : FVec Ideal S16x15 .f32) :
    FVec Ideal S4096x8x30 .f32 :=
  shapeCast S4096x8x30
    (shapeCast S4096x8x2x15
      (addf (subf (Host.sign (shifted x S T)) (Host.tanh (shifted x S T))) (Host.tanh (shifted x S T)))
      shapeCasts_S4096x16x15_S4096x8x2x15) shapeCasts_S4096x8x2x15_S4096x8x30

/-- The reference's scores of the 256 candidate rows. -/
def scores (x : FVec Ideal S4096x32 .f32) (S : FVec Ideal S16x2x15 .f32) (H : FVec Ideal S30x256 .f32)
    (T : FVec Ideal S16x15 .f32) : FVec Ideal S4096x8x256 .f32 :=
  Host.dotGeneral dot_S4096x8x30_S30x256_S4096x8x256_2_0_01_1_n_n none (hash x S T) H

/-- The position component of a reduction of values and positions. -/
def position {F : FTy → Type} [FloatOps F] {φ : FTy} {β : Type} {s t u : Shape} {axes : List (Fin s.rank)}
    (f : F φ × β → F φ × β → F φ × β) (x : FVec F s φ) (y : s.Idx → β) (vx : u.Idx → F φ) (vy : u.Idx → β)
    (h : s.ReducesTo axes t) (hu : 0 < u.numel) (j : t.Idx) : β :=
  (Host.argReduce f x y vx vy h hu j).2

/-- An array of position components is that of the same reduction over equal operands. -/
theorem position_of {F : FTy → Type} [FloatOps F] {φ : FTy} {β : Type} {s t u : Shape} {axes : List (Fin s.rank)}
    {f : F φ × β → F φ × β → F φ × β} {x x' : FVec F s φ} {y y' : s.Idx → β} {vx vx' : u.Idx → F φ} {vy vy' : u.Idx → β}
    {h : s.ReducesTo axes t} {hu : 0 < u.numel} {A : t.Idx → β}
    (hA : (fun j => (Host.argReduce f x y vx vy h hu j).2) = A) (hx : x = x') (hy : y = y') (hvx : vx = vx') (hvy : vy = vy') :
    A = fun j => position f x' y' vx' vy' h hu j := by
  subst hx hy hvx hvy
  exact hA.symm

/-- The candidate row that the reference picks: the argmax of an array of scores along its last axis. -/
def pick (s : FVec Ideal S4096x8x256 .f32) : IVec S4096x8 32 := fun j =>
  position (F := Ideal) (φ := .f32) reducer_argmax_f32_i32 s (iotaInDim S4096x8x256 32 2) (constant (F := Ideal) S_ .f32 0xFF800000#32)
    (constantI S_ 32 0#32) reducesTo_S4096x8x256_S4096x8_d2 h_S_ j

/-- The one-hot array of the rows picked. -/
def hot (i : IVec S4096x8 32) : FVec Ideal S4096x8x256 .f32 :=
  uitofp .f32 (cmpi .eq
    (broadcastInDim S4096x8x256 ![0, 1, 2] bcast_S4096x8x1_S4096x8x256_0_1_2
      (broadcastInDim S4096x8x1 ![0, 1] bcast_S4096x8_S4096x8x1_0_1 i))
    (broadcastInDim S4096x8x256 ![0, 1, 2] bcast_S1x1x256_S4096x8x256_0_1_2 (iotaInDim S1x1x256 32 2)))

/-- The table of every group contracted with the one-hot array of the rows picked. -/
def lookup (L : FVec Ideal S8x256x1000 .f32) (i : IVec S4096x8 32) : FVec Ideal S4096x8x1000 .f32 :=
  transpose S4096x8x1000 [2, 0, 1]
    (Host.dotGeneral dot_S8x256x1000_S4096x8x256_S8x1000x4096_1_2_2_0_0_1 none L (hot i))
    transposes_S8x1000x4096_S4096x8x1000_2_0_1

/-- The reference's result as one term over its five arguments. -/
def result (x : FVec Ideal S4096x32 .f32) (S : FVec Ideal S16x2x15 .f32) (H : FVec Ideal S30x256 .f32)
    (T : FVec Ideal S16x15 .f32) (L : FVec Ideal S8x256x1000 .f32) : FVec Ideal S4096x8x1000 .f32 :=
  lookup L (pick (scores x S H T))

/-- A difference to a finite value, the value added back, is what was there before the difference. -/
theorem sub_tanh_add_tanh (a v : EReal) : a - Ideal.tanh v + Ideal.tanh v = a := by
  have h : ∃ r : ℝ, Ideal.tanh v = (r : EReal) := by
    induction v using EReal.rec with
    | bot => exact ⟨-1, by rw [EReal.coe_neg, EReal.coe_one]; rfl⟩
    | top => exact ⟨1, by rw [EReal.coe_one]; rfl⟩
    | coe r => exact ⟨Real.tanh r, rfl⟩
  obtain ⟨r, e⟩ := h
  rw [e]
  exact EReal.sub_add_cancel

/-- The hash at an index is the sign of the projection. -/
theorem hash_apply (x : FVec Ideal S4096x32 .f32) (S : FVec Ideal S16x2x15 .f32) (T : FVec Ideal S16x15 .f32)
    (b : Fin 4096) (c : Fin 8) (d : Fin 30) : hash x S T (ix3 b c d)
      = Cert.Spec.bit (fun b e => x (ix2 b e)) (fun p f q => S (ix3 p f q)) (fun p q => T (ix2 p q)) b c d := by
  pointwise [hash, shifted]
  exact sub_tanh_add_tanh _ _

/-- The scores at an index. -/
theorem scores_apply (x : FVec Ideal S4096x32 .f32) (S : FVec Ideal S16x2x15 .f32) (H : FVec Ideal S30x256 .f32)
    (T : FVec Ideal S16x15 .f32) (b : Fin 4096) (c : Fin 8) (k : Fin 256) :
    scores x S H T (ix3 b c k) = ∑ d : Fin 30, hash x S T (ix3 b c d) * H (ix2 d k) := by
  pointwise [scores]

/-- The pattern of negative infinity is the least extended real. -/
theorem ofBits_negInf : Ideal.ofBits .f32 0xFF800000#32 = (⊥ : EReal) := by simp [Ideal.ofBits, Ideal.ieee]

/-- The pairs that a reduction of two arrays folds over at an index are those of the indices that drop to it. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  simp only [Host.argReduceFiber, List.mem_map, List.mem_filter, List.mem_finRange, decide_eq_true_eq, true_and]
  constructor
  · rintro ⟨n, hn, e⟩
    exact ⟨_, hn, e.symm⟩
  · rintro ⟨i, hi, e⟩
    exact ⟨s.rowMajor i, by rw [Equiv.symm_apply_apply]; exact ⟨hi, e.symm⟩⟩

/-- An argmax along the last of three axes, whose positions run over 256 words and whose initial pair is the least value at
    position 0, is the first position of the greatest value. -/
theorem argmax_apply {n0 n1 : ℕ} {u : Shape} (x : (⟨3, ![n0, n1, 256]⟩ : Shape).Idx → EReal)
    (y : (⟨3, ![n0, n1, 256]⟩ : Shape).Idx → BitVec 32) (vx : u.Idx → EReal) (vy : u.Idx → BitVec 32)
    (h : (⟨3, ![n0, n1, 256]⟩ : Shape).ReducesTo [2] ⟨2, ![n0, n1]⟩) (hu : 0 < u.numel)
    (hx : ∀ a, vx a = ⊥) (hv : ∀ a, vy a = 0#32) (b : Fin n0) (c : Fin n1)
    (hy : ∀ k : Fin 256, y (ix3 b c k) = BitVec.ofNat 32 k.val) :
    position (F := Ideal) (φ := .f32) reducer_argmax_f32_i32 x y vx vy h hu (ix2 b c)
      = BitVec.ofNat 32 (Cert.FirstMax.first fun k => x (ix3 b c k)).val := by
  unfold position
  rw [Ideal.argReduce_eq_reduce2, Host.reduce2_eq_foldl_fiber, hx, hv]
  refine Cert.FirstMax.fold_eq_first (fun k => x (ix3 b c k)) _ fun p => ?_
  rw [mem_fiber]
  constructor
  · rintro ⟨i, hi, rfl⟩
    obtain ⟨k, rfl⟩ := (Shape.ReducesTo.fiber_r3_a2 _ _ _).mp hi
    exact ⟨k, congrArg (Prod.mk _) (hy k)⟩
  · rintro ⟨k, rfl⟩
    exact ⟨ix3 b c k, (Shape.ReducesTo.fiber_r3_a2 _ _ _).mpr ⟨k, rfl⟩, congrArg (Prod.mk _) (hy k).symm⟩

/-- The row picked at an index is the first position of the greatest score. -/
theorem pick_apply (s : FVec Ideal S4096x8x256 .f32) (b : Fin 4096) (c : Fin 8) :
    pick s (ix2 b c) = BitVec.ofNat 32 (Cert.FirstMax.first fun k => s (ix3 b c k)).val :=
  argmax_apply s (iotaInDim S4096x8x256 32 2) (constant (F := Ideal) S_ .f32 0xFF800000#32) (constantI S_ 32 0#32)
    reducesTo_S4096x8x256_S4096x8_d2 h_S_ (fun _ => ofBits_negInf) (fun _ => rfl) b c fun _ => rfl

/-- The one-hot array at an index. -/
theorem hot_apply (i : IVec S4096x8 32) (b : Fin 4096) (c : Fin 8) (k : Fin 256) :
    hot i (ix3 b c k) = if i (ix2 b c) = BitVec.ofNat 32 k.val then 1 else 0 := by
  pointwise [hot]
  by_cases h : i (ix2 b c) = BitVec.ofNat 32 k.val <;> simp [IntOp.cmpi, FloatOps.uitofp, h]

/-- The reference's result at an index. -/
theorem result_apply (x : FVec Ideal S4096x32 .f32) (S : FVec Ideal S16x2x15 .f32) (H : FVec Ideal S30x256 .f32)
    (T : FVec Ideal S16x15 .f32) (L : FVec Ideal S8x256x1000 .f32) (b : Fin 4096) (c : Fin 8) (o : Fin 1000) :
    result x S H T L (ix3 b c o) = ∑ k : Fin 256, L (ix3 c k o) * hot (pick (scores x S H T)) (ix3 b c k) := by
  pointwise [result, lookup]

/-- The reference's result is the plain mathematics. -/
theorem result_value (x : FVec Ideal S4096x32 .f32) (S : FVec Ideal S16x2x15 .f32) (H : FVec Ideal S30x256 .f32)
    (T : FVec Ideal S16x15 .f32) (L : FVec Ideal S8x256x1000 .f32) (b : Fin 4096) (c : Fin 8) (o : Fin 1000) :
    result x S H T L (ix3 b c o)
      = Cert.Spec.value (fun b e => x (ix2 b e)) (fun p f q => S (ix3 p f q)) (fun d k => H (ix2 d k))
          (fun p q => T (ix2 p q)) (fun c k o => L (ix3 c k o)) b c o := by
  rw [result_apply]
  refine Finset.sum_congr rfl fun k _ => ?_
  have hs : (fun k => scores x S H T (ix3 b c k)) = fun k => ∑ d : Fin 30, H (ix2 d k)
      * Cert.Spec.bit (fun b e => x (ix2 b e)) (fun p f q => S (ix3 p f q)) (fun p q => T (ix2 p q)) b c d := by
    funext k
    rw [scores_apply]
    exact Finset.sum_congr rfl fun d _ => by rw [hash_apply, mul_comm]
  rw [hot_apply, pick_apply, hs]
  congr 1
  exact if_congr ⟨fun h => Cert.FirstMax.word_inj h, fun h => congrArg (fun k : Fin 256 => BitVec.ofNat 32 k.val) h⟩ rfl rfl

end Cert.ReferenceIdeal.Value

end
-- ==== Proof.Block.lean ====
/- The kernel's block, entry by entry: the sign array of one grid point, the scores and the one-hot array of one group, and
   the tile of the output that the group stores. -/
module

public import proofs.«01_k».proof.Proof.Gen.KernelIdeal.Skeleton
public import proofs.«01_k».proof.Proof.FirstMax
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- The scores of one group: the candidate rows contracted with the 30 rows of the sign array that start at `off`. -/
def scores (off : ℕ) (hs : S256x256.Slices ![off, 0] S30x256) (s : FVec Ideal S256x256 .f32) (H : FVec Ideal S30x256 .f32) :
    FVec Ideal S256x256 .f32 :=
  matmul dot_S30x256_S30x256_S256x256_0_0_1_1_n_n none H (extractStridedSlice S30x256 ![off, 0] s hs)
    (constant S256x256 .f32 0x00000000#32)

/-- The row numbers of a 256 by 256 array. -/
abbrev rows : IVec S256x256 32 := iota .tc S256x256 32 [0] iota_S256x256_d0_w32

/-- The greatest score of each column. -/
def top (sc : FVec Ideal S256x256 .f32) : FVec Ideal S256 .f32 :=
  multiReduction .maximumf [0] S256 sc 0xFF800000#32 reduces_S256x256_S256 (.inl rfl) rfl

/-- The row numbers where the score is the greatest of its column, and 256 elsewhere. -/
def cand (sc : FVec Ideal S256x256 .f32) : IVec S256x256 32 :=
  select (cmpf .oeq sc (broadcastTo S256x256 (shapeCast S1x256 (top sc) shapeCasts_S256_S1x256) broadcasts_S1x256_S256x256))
    rows (broadcast S256x256 256#32)

/-- The least of those row numbers, column by column. -/
def least (sc : FVec Ideal S256x256 .f32) : IVec S256 32 :=
  multiReductionI .minsi [0] S256 (cand sc) 2147483647#32 reduces_S256x256_S256 rfl

/-- The one-hot array of the rows picked. -/
def hot (i : IVec S256 32) : FVec Ideal S256x256 .bf16 :=
  truncf .bf16 (sitofp .f32 (extui 32 (cmpi .eq rows
    (broadcastTo S256x256 (shapeCast S1x256 i shapeCasts_S256_S1x256) broadcasts_S1x256_S256x256)) natLt_1_32)) bitsLt_bf16_f32

/-- The tile of the output that one group stores. -/
def tile (h : FVec Ideal S256x256 .bf16) (lut : Vec Ideal S1x1000x256 .bf16) : FVec Ideal S1x1000x256 .f32 :=
  shapeCast S1x1000x256
    (matmul (φ₁ := .bf16) dot_S1000x256_S256x256_S1000x256_1_0_0_1_n_n none (shapeCast S1000x256 lut shapeCasts_S1x1000x256_S1000x256) h
      (constant S1000x256 .f32 0x00000000#32)) shapeCasts_S1000x256_S1x1000x256

/-- The tile of one group as a function of the sign array, the candidate rows and the group's table. -/
def group (off : ℕ) (hs : S256x256.Slices ![off, 0] S30x256) (s : FVec Ideal S256x256 .f32) (H : FVec Ideal S30x256 .f32)
    (lut : Vec Ideal S1x1000x256 .bf16) : FVec Ideal S1x1000x256 .f32 :=
  tile (hot (least (scores off hs s H))) lut

/-- The row numbers at an index. -/
theorem rows_apply (r l : Fin 256) : rows (ix2 r l) = BitVec.ofNat 32 r.val := by
  pointwise [rows]

/-- The scores of a group at an index: the sum over the group's 30 bits. -/
theorem scores_apply (off : ℕ) (hs : S256x256.Slices ![off, 0] S30x256) (ho : off + 30 ≤ 256) (s : FVec Ideal S256x256 .f32)
    (H : FVec Ideal S30x256 .f32) (k l : Fin 256) :
    scores off hs s H (ix2 k l) = ∑ d : Fin 30, H (ix2 d k) * s (ix2 ⟨off + d.val, by omega⟩ l) := by
  pointwise [scores]

/-- The row numbers kept at an index: the row's own where its score is the column's greatest, else 256. -/
theorem cand_apply (sc : FVec Ideal S256x256 .f32) (k l : Fin 256) :
    cand sc (ix2 k l) = if sc (ix2 k l) = top sc (ix1 l) then BitVec.ofNat 32 k.val else 256#32 := by
  pointwise [cand, rows]

/-- The one-hot array at an index. -/
theorem hot_apply (i : IVec S256 32) (k l : Fin 256) :
    hot i (ix2 k l) = if i (ix1 l) = BitVec.ofNat 32 k.val then 1 else 0 := by
  pointwise [hot, rows]
  by_cases h : i (ix1 l) = BitVec.ofNat 32 k.val
  · simp [IntOp.cmpi, FloatOps.sitofp, h]
  · have h' : (BitVec.ofNat 32 k.val == i (ix1 l)) = false := beq_eq_false_iff_ne.mpr (Ne.symm h)
    simp [IntOp.cmpi, FloatOps.sitofp, h, h']

/-- The tile at an index: the table's row contracted with the one-hot column. -/
theorem tile_apply (h : FVec Ideal S256x256 .bf16) (lut : Vec Ideal S1x1000x256 .bf16) (o : Fin 1000) (l : Fin 256) :
    tile h lut (ix3 0 o l) = ∑ k : Fin 256, lut (ix3 0 o k) * h (ix2 k l) := by
  pointwise [tile]

/-- The sign array of a grid point at an index. -/
theorem sign_apply (w : Vec Ideal S256x32 .f32) (x : Vec Ideal S32x256 .f32) (t : Vec Ideal S256x1 .f32) (r l : Fin 256) :
    k0_pay11 w x t (ix2 r l)
      = Ideal.sign (∑ e : Fin 32, w (ix2 r e) * x (ix2 e l) - t (ix2 r 0) - Ideal.ofBits .f32 953267991#32) := by
  rw [← Ideal.jnp_sign_eq_sign_f32]
  pointwise [k0_pay11]

/-- The pattern of negative infinity is the least extended real. -/
theorem ofBits_negInf : Ideal.ofBits .f32 0xFF800000#32 = (⊥ : EReal) := by simp [Ideal.ofBits, Ideal.ieee]

/-- The greatest score of a column is the score at its first position. -/
theorem top_apply (sc : FVec Ideal S256x256 .f32) (l : Fin 256) :
    top sc (ix1 l) = sc (ix2 (Cert.FirstMax.first fun k => sc (ix2 k l)) l) := by
  have h : top sc (ix1 l)
      = (Finset.univ : Finset (Fin 256)).fold max (Ideal.ofBits .f32 0xFF800000#32) (fun k => sc (ix2 k l)) := by
    pointwise [top]
  rw [h, ofBits_negInf]
  exact Cert.FirstMax.fold_max_eq fun k => sc (ix2 k l)

/-- The least row number kept in a column is the first position of the column's greatest score. -/
theorem least_apply (sc : FVec Ideal S256x256 .f32) (l : Fin 256) :
    least sc (ix1 l) = BitVec.ofNat 32 (Cert.FirstMax.first fun k => sc (ix2 k l)).val := by
  have h : least sc (ix1 l)
      = (Finset.univ : Finset (Fin 256)).fold IntOp.minsi 2147483647#32 (fun k => cand sc (ix2 k l)) := by
    pointwise [least]
  rw [h]
  refine Cert.FirstMax.fold_min_eq (fun k => sc (ix2 k l)) _ fun k => ?_
  rw [cand_apply, top_apply]

/-- The tile of a group at an index: the table contracted with the one-hot row of the first best candidate. -/
theorem group_apply (off : ℕ) (hs : S256x256.Slices ![off, 0] S30x256) (ho : off + 30 ≤ 256) (s : FVec Ideal S256x256 .f32)
    (H : FVec Ideal S30x256 .f32) (lut : Vec Ideal S1x1000x256 .bf16) (o : Fin 1000) (l : Fin 256) :
    group off hs s H lut (ix3 0 o l) = ∑ k : Fin 256, lut (ix3 0 o k)
      * (if (Cert.FirstMax.first fun k' => ∑ d : Fin 30, H (ix2 d k') * s (ix2 ⟨off + d.val, by omega⟩ l)) = k then 1 else 0) := by
  unfold group
  rw [tile_apply]
  refine Finset.sum_congr rfl fun k _ => ?_
  rw [hot_apply, least_apply]
  simp only [scores_apply off hs ho]
  congr 1
  refine if_congr ⟨fun h => Cert.FirstMax.word_inj h, fun h => by rw [h]⟩ rfl rfl

/-- What the kernel leaves in its output block at an index, from the sign array, the candidate rows and the tables. -/
def entry (s : FVec Ideal S256x256 .f32) (H : FVec Ideal S30x256 .f32) (lut : Vec Ideal S8x1000x256 .bf16)
    (c : Fin 8) (o : Fin 1000) (l : Fin 256) : EReal :=
  ∑ k : Fin 256, lut (ix3 c o k)
    * (if (Cert.FirstMax.first fun k' => ∑ d : Fin 30, H (ix2 d k') * s (ix2 ⟨c.val * 32 + d.val, by omega⟩ l)) = k then 1 else 0)

/-- The tile of group `c` is the block's part that lies at `c`. -/
theorem group_entry (off : ℕ) (hs : S256x256.Slices ![off, 0] S30x256) (s : FVec Ideal S256x256 .f32)
    (H : FVec Ideal S30x256 .f32) (L : Vec Ideal S1x1000x256 .bf16) (lut : Vec Ideal S8x1000x256 .bf16)
    (x : S1x1000x256.Idx) (c : Fin 8) (o : Fin 1000) (l : Fin 256) (hc : off = c.val * 32) (ho : (o : ℕ) = x 1)
    (hl : (l : ℕ) = x 2) (hL : ∀ (o' : Fin 1000) (k : Fin 256), L (ix3 0 o' k) = lut (ix3 c o' k)) :
    group off hs s H L x = entry s H lut c o l := by
  subst hc
  have hx : x = ix3 0 o l := by
    funext a
    apply Fin.ext
    match a with
    | ⟨0, _⟩ => exact Nat.lt_one_iff.mp (x 0).isLt
    | ⟨1, _⟩ => exact ho.symm
    | ⟨2, _⟩ => exact hl.symm
  rw [hx, group_apply _ _ (by omega)]
  simp only [hL]
  rfl

section
variable (w : Vec Ideal S256x32 .f32) (x : Vec Ideal S32x256 .f32) (t : Vec Ideal S256x1 .f32) (s : FVec Ideal S256x256 .f32)
  (H : FVec Ideal S30x256 .f32) (lut : Vec Ideal S1x1000x256 .bf16)

/-- The kernel's store of group 0 is the tile of the group whose rows start at 0. -/
theorem group_0 : k0_pay13 (k0_pay12 w x t H) lut = group 0 slices_S256x256_o0_0_S30x256 (k0_pay11 w x t) H lut := rfl
/-- The kernel's store of group 1 is the tile of the group whose rows start at 32. -/
theorem group_1 : k0_pay14 s rows H lut = group 32 slices_S256x256_o32_0_S30x256 s H lut := rfl
/-- The kernel's store of group 2 is the tile of the group whose rows start at 64. -/
theorem group_2 : k0_pay16 rows (k0_pay15 s H) lut = group 64 slices_S256x256_o64_0_S30x256 s H lut := rfl
/-- The kernel's store of group 3 is the tile of the group whose rows start at 96. -/
theorem group_3 : k0_pay17 s rows H lut = group 96 slices_S256x256_o96_0_S30x256 s H lut := rfl
/-- The kernel's store of group 4 is the tile of the group whose rows start at 128. -/
theorem group_4 : k0_pay18 s rows H lut = group 128 slices_S256x256_o128_0_S30x256 s H lut := rfl
/-- The kernel's store of group 5 is the tile of the group whose rows start at 160. -/
theorem group_5 : k0_pay20 (k0_pay19 s rows H) lut = group 160 slices_S256x256_o160_0_S30x256 s H lut := rfl
/-- The kernel's store of group 6 is the tile of the group whose rows start at 192. -/
theorem group_6 : k0_pay21 s rows H lut = group 192 slices_S256x256_o192_0_S30x256 s H lut := rfl
/-- The kernel's store of group 7 is the tile of the group whose rows start at 224. -/
theorem group_7 : k0_pay1 rows (k0_pay22 s H) lut = group 224 slices_S256x256_o224_0_S30x256 s H lut := rfl
end

end Cert.KernelIdeal.Value

end
-- ==== Proof.Outs.lean ====
/- What each grid point of the kernel leaves in its output block and in its scratch: the first point fills the scratch with the
   tables, the later points read them back. -/
module

public import proofs.«01_k».proof.Proof.Block
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- After the first point the scratch holds the tables. -/
theorem scratch_A (c : Dev nD) (t : Fin cfg0.N) (h0 : t.val % 16 = 0) (y : S8x1000x256.Idx) :
    (outsAt0 m c t.val t.isLt).2 y = iblk m c 4 t y := by
  rw [outsAt0_A m c t h0]
  frame_out
  canon_tiles x h
  all_goals
    pointwise [k0_pay2, k0_pay3, k0_pay4, k0_pay5, k0_pay6, k0_pay7, k0_pay8, k0_pay9, k0_pay10]
    blk_ext

/-- A later point leaves the scratch as the point before left it. -/
theorem scratch_B (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- What a later point leaves in its output block: the tables come from the scratch of the point before. -/
theorem out_B (c : Dev nD) (t : Fin cfg0.N) (h0 : ¬t.val % 16 = 0) (y : S8x1000x256.Idx) :
    (outsAt0 m c t.val t.isLt).1 y = entry (k0_pay11 (iblk m c 1 t) (iblk m c 0 t) (iblk m c 2 t)) (iblk m c 3 t)
      (outsAt0 m c (t.val - 1) (Nat.lt_of_le_of_lt (Nat.sub_le _ _) t.isLt)).2 (y 0) (y 1) (y 2) := by
  rw [outsAt0_B m c t h0]
  frame_out
  canon_tiles x h
  all_goals
    first
      | rw [group_0] | rw [group_1] | rw [group_2] | rw [group_3] | rw [group_4] | rw [group_5] | rw [group_6] | rw [group_7]
    refine group_entry _ _ _ _ _ _ x _ _ _ (by omega) h1 h2 fun o k => ?_
    generalize (outsAt0 m c (t.val - 1) (Nat.lt_of_le_of_lt (Nat.sub_le _ _) t.isLt)).2 = lut
    generalize y 0 = g at *
    rw [read_unread_whole]
    pointwise
    blk_ext

/-- What the first point leaves in its output block: the tables come from the scratch that the same point fills. -/
theorem out_A (c : Dev nD) (t : Fin cfg0.N) (h0 : t.val % 16 = 0) (y : S8x1000x256.Idx) :
    (outsAt0 m c t.val t.isLt).1 y = entry (k0_pay11 (iblk m c 1 t) (iblk m c 0 t) (iblk m c 2 t)) (iblk m c 3 t)
      (iblk m c 4 t) (y 0) (y 1) (y 2) := by
  rw [outsAt0_A m c t h0]
  frame_out
  canon_tiles x h
  all_goals
    simp (disch := decide) only [↓View.readCov_skip, View.readCov_cons_toLoadRect]
    first
      | rw [group_0] | rw [group_1] | rw [group_2] | rw [group_3] | rw [group_4] | rw [group_5] | rw [group_6] | rw [group_7]
    refine group_entry _ _ _ _ _ _ x _ _ _ (by omega) h1 h2 fun o k => ?_
    generalize y 0 = g at *
    pointwise [k0_pay2, k0_pay3, k0_pay4, k0_pay5, k0_pay6, k0_pay7, k0_pay8, k0_pay9, k0_pay10]
    blk_ext

/-- After every point the scratch holds the tables as the first point's block has them. -/
theorem scratch (c : Dev nD) (n : ℕ) (hn : n < cfg0.N) :
    (outsAt0 m c n hn).2 = iblk m c 4 ⟨0, Nat.lt_of_le_of_lt (Nat.zero_le _) hn⟩ := by
  induction n with
  | zero => exact funext fun y => scratch_A m c ⟨0, hn⟩ (Nat.zero_mod _) y
  | succ n ih =>
    have h16 : n + 1 < 16 := lt_of_lt_of_eq hn N_0
    exact (scratch_B m c ⟨n + 1, hn⟩ (by dsimp only; omega)).trans (ih (Nat.lt_of_succ_lt hn))

/-- What each point leaves in its output block. -/
theorem out (c : Dev nD) (t : Fin cfg0.N) (y : S8x1000x256.Idx) :
    (outsAt0 m c t.val t.isLt).1 y = entry (k0_pay11 (iblk m c 1 t) (iblk m c 0 t) (iblk m c 2 t)) (iblk m c 3 t)
      (iblk m c 4 ⟨0, Nat.lt_of_le_of_lt (Nat.zero_le _) t.isLt⟩) (y 0) (y 1) (y 2) := by
  have h16 : t.val < 16 := lt_of_lt_of_eq t.isLt N_0
  by_cases h0 : t.val % 16 = 0
  · have ht : t = ⟨0, Nat.lt_of_le_of_lt (Nat.zero_le _) t.isLt⟩ := Fin.ext (by dsimp only; omega)
    rw [out_A m c t h0 y, ← ht]
  · rw [out_B m c t h0 y, scratch]

end Cert.KernelIdeal.Value

end
-- ==== Proof.Prefix.lean ====
/- The host operations before the kernel: the arrays that the kernel is launched on, as terms over the arguments. -/
module

public import proofs.«01_k».proof.Proof.Gen.KernelIdeal.Frame
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.KernelIdeal.Value

open Cert.KernelIdeal Cert.KernelIdeal.Gen

/-- The identity array of 32 rows, as the program makes it from two arrays of positions. -/
def eye : FVec Ideal S32x32 .f32 :=
  uitofp .f32 (cmpi .eq (addi (iotaInDim S32x32 32 0) (broadcastInDim S32x32 ![] bcast_S_S32x32 (constantI S_ 32 0#32)))
    (iotaInDim S32x32 32 1))

/-- The weights of the projections, laid out as 256 rows over the 32 features: 30 rows for each group, then two of zeros. -/
def weights (S : FVec Ideal S16x2x15 .f32) : FVec Ideal S256x32 .f32 :=
  shapeCast S256x32
    (pad S8x32x32 ![0, 0, 0] ![0, 2, 0] ![0, 0, 0]
      (shapeCast S8x30x32
        (Host.dotGeneral dot_S8x2x2x15_S8x2x2x32_S8x2x15x32_2_2_3_3_01_01 none
          (shapeCast S8x2x2x15 S shapeCasts_S16x2x15_S8x2x2x15) (shapeCast S8x2x2x32 eye shapeCasts_S32x32_S8x2x2x32))
        shapeCasts_S8x2x15x32_S8x30x32)
      (sitofp .f32 (constantI S_ 32 0#32)) pads_S8x30x32_S8x32x32_000_020_000 h_S_) shapeCasts_S8x32x32_S256x32

/-- The thresholds in the same layout. -/
def thresholds (T : FVec Ideal S16x15 .f32) : FVec Ideal S256x1 .f32 :=
  shapeCast S256x1
    (pad S8x32 ![0, 0] ![0, 2] ![0, 0] (shapeCast S8x30 T shapeCasts_S16x15_S8x30)
      (sitofp .f32 (constantI S_ 32 0#32)) pads_S8x30_S8x32_000_020 h_S_) shapeCasts_S8x32_S256x1

/-- The identity array at an index. -/
theorem eye_apply (r e : Fin 32) : eye (ix2 r e) = if e = r then 1 else 0 := by
  pointwise [eye]
  have hr := r.isLt
  have he := e.isLt
  rw [show IntOp.addi (BitVec.ofNat 32 r.val) 0#32 = BitVec.ofNat 32 r.val from BitVec.add_zero _]
  by_cases h : e = r
  · subst h
    simp [IntOp.cmpi, FloatOps.uitofp]
  · have h' : (BitVec.ofNat 32 r.val == BitVec.ofNat 32 e.val) = false := by
      refine beq_eq_false_iff_ne.mpr fun hw => h ?_
      have := congrArg BitVec.toNat hw
      rw [BitVec.toNat_ofNat, BitVec.toNat_ofNat, Nat.mod_eq_of_lt (by omega), Nat.mod_eq_of_lt (by omega)] at this
      exact Fin.ext this.symm
    simp [IntOp.cmpi, FloatOps.uitofp, h, h']

/-- The weights at a row of a group and a feature: the two weights of the row's codebook, each at its own feature. -/
theorem weights_apply (S : FVec Ideal S16x2x15 .f32) (c : Fin 8) (d : Fin 30) (e : Fin 32) :
    weights S (ix2 ⟨c.val * 32 + d.val, by omega⟩ e)
      = ∑ f : Fin 2, S (ix3 ⟨c.val * 2 + d.val / 15, by omega⟩ f ⟨d.val % 15, by omega⟩)
          * eye (ix2 ⟨(c.val * 2 + d.val / 15) * 2 + f.val, by omega⟩ e) := by
  pointwise [weights]
  have hd := d.isLt
  have hm : (c.val * 32 + d.val) % 32 = d.val := by omega
  rw [dif_pos (by omega)]
  simp only [hm, show c.val * 4 + d.val / 15 * 2 = (c.val * 2 + d.val / 15) * 2 from by omega]

/-- The thresholds at a row of a group. -/
theorem thresholds_apply (T : FVec Ideal S16x15 .f32) (c : Fin 8) (d : Fin 30) :
    thresholds T (ix2 ⟨c.val * 32 + d.val, by omega⟩ 0)
      = T (ix2 ⟨c.val * 2 + d.val / 15, by omega⟩ ⟨d.val % 15, by omega⟩) := by
  pointwise [thresholds]
  have hd := d.isLt
  have hm : (c.val * 32 + d.val) % 32 = d.val := by omega
  rw [dif_pos (by omega)]
  simp only [hm]

/-- A sum over the features against a row that is two weights at consecutive features and zero elsewhere has two terms. -/
theorem sum_two (a : Fin 2 → EReal) (x : Fin 32 → EReal) (g : ℕ) (hg : g + 2 ≤ 32) :
    ∑ e : Fin 32, (∑ f : Fin 2, a f * (if e = ⟨g + f.val, by omega⟩ then 1 else 0)) * x e
      = ∑ f : Fin 2, a f * x ⟨g + f.val, by omega⟩ := by
  have key : ∀ e : Fin 32, (∑ f : Fin 2, a f * (if e = ⟨g + f.val, by omega⟩ then 1 else 0)) * x e
      = ∑ f : Fin 2, if e = ⟨g + f.val, by omega⟩ then a f * x e else 0 := by
    intro e
    simp only [Fin.sum_univ_two]
    by_cases h0 : e.val = g
    · have h1 : e.val ≠ g + 1 := by omega
      simp [Fin.ext_iff, h0]
    · by_cases h1 : e.val = g + 1 <;> simp [Fin.ext_iff, h0, h1]
  rw [Finset.sum_congr rfl fun e _ => key e, Finset.sum_comm]
  refine Finset.sum_congr rfl fun f _ => ?_
  rw [Finset.sum_ite_eq' Finset.univ _ fun e => a f * x e, if_pos (Finset.mem_univ _)]

/-- A row of the weights against an array of features: the two features of the row's codebook. -/
theorem weights_sum (S : FVec Ideal S16x2x15 .f32) (x : Fin 32 → EReal) (c : Fin 8) (d : Fin 30) :
    ∑ e : Fin 32, weights S (ix2 ⟨c.val * 32 + d.val, by omega⟩ e) * x e
      = ∑ f : Fin 2, S (ix3 ⟨c.val * 2 + d.val / 15, by omega⟩ f ⟨d.val % 15, by omega⟩)
          * x ⟨(c.val * 2 + d.val / 15) * 2 + f.val, by omega⟩ := by
  simp only [weights_apply, eye_apply]
  exact sum_two (fun f => S (ix3 ⟨c.val * 2 + d.val / 15, by omega⟩ f ⟨d.val % 15, by omega⟩)) x
    ((c.val * 2 + d.val / 15) * 2) (by omega)

variable (m : (ℓ : Loc nD τ sig) → Buf (Elt Ideal) ℓ)

/-- The kernel's second operand is the array of weights. -/
theorem V_weights (c : Dev nD) : V m c main_v11 = weights (m ((c : Thread nD τ).loc main_arg1)) := by
  entry_read
  rfl

/-- The kernel's third operand is the array of thresholds. -/
theorem V_thresholds (c : Dev nD) : V m c main_v14 = thresholds (m ((c : Thread nD τ).loc main_arg3)) := by
  entry_read
  rfl

/-- The kernel's fifth operand is the tables with the candidate axis last. -/
theorem V_tables (c : Dev nD) : V m c main_v15
    = transpose S8x1000x256 [0, 2, 1] (m ((c : Thread nD τ).loc main_arg4)) transposes_S8x256x1000_S8x1000x256_0_2_1 := by
  entry_read
  rfl

/-- The kernel's first operand is the features with the batch axis last. -/
theorem V_features (c : Dev nD) : V m c main_v16
    = transpose S32x4096 [1, 0] (m ((c : Thread nD τ).loc main_arg0)) transposes_S4096x32_S32x4096_1_0 := by
  entry_read
  rfl

end Cert.KernelIdeal.Value

end
-- ==== Proof.Final.lean ====
/- The output array after the kernel: every grid point's block is the specified value at the point's 256 batch rows, and the
   blocks cover the array. -/
module

public import proofs.«01_k».proof.Proof.Outs
public import proofs.«01_k».proof.Proof.Prefix
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The block of each window at each grid point. -/
theorem idx : ∀ t : Fin cfg0.N, win0_0.index t = ![0, t.val] ∧ win0_1.index t = ![0, 0] ∧ win0_2.index t = ![0, 0]
    ∧ win0_3.index t = ![0, 0] ∧ win0_4.index t = ![0, 0, 0] ∧ win0_5.index t = ![0, 0, t.val] :=
  (by decide +kernel : ∀ t : Fin grid0.N, _)

/-- The mathematics over the arguments of a memory. -/
def goal (c : Dev nD) (b : Fin 4096) (g : Fin 8) (o : Fin 1000) : EReal :=
  Cert.Spec.value (fun b e => (m ((c : Thread nD τ).loc main_arg0) : Vec Ideal S4096x32 .f32) (ix2 b e))
    (fun p f q => (m ((c : Thread nD τ).loc main_arg1) : Vec Ideal S16x2x15 .f32) (ix3 p f q))
    (fun d k => (m ((c : Thread nD τ).loc main_arg2) : Vec Ideal S30x256 .f32) (ix2 d k))
    (fun p q => (m ((c : Thread nD τ).loc main_arg3) : Vec Ideal S16x15 .f32) (ix2 p q))
    (fun c' k o => (m ((c : Thread nD τ).loc main_arg4) : Vec Ideal S8x256x1000 .f32) (ix3 c' k o)) b g o

/-- The weights that a grid point reads. -/
theorem blk_weights (c : Dev nD) (t : Fin cfg0.N) (r : Fin 256) (e : Fin 32) :
    (iblk m c 1 t : Vec Ideal S256x32 .f32) (ix2 r e) = weights (m ((c : Thread nD τ).loc main_arg1)) (ix2 r e) := by
  rw [← V_weights]
  blk_ext [iblk, idx t]

/-- The thresholds that a grid point reads. -/
theorem blk_thresholds (c : Dev nD) (t : Fin cfg0.N) (r : Fin 256) :
    (iblk m c 2 t : Vec Ideal S256x1 .f32) (ix2 r 0) = thresholds (m ((c : Thread nD τ).loc main_arg3)) (ix2 r 0) := by
  rw [← V_thresholds]
  blk_ext [iblk, idx t]

/-- The features that a grid point reads: its own 256 batch rows. -/
theorem blk_features (c : Dev nD) (t : Fin cfg0.N) (ht : t.val < 16) (e : Fin 32) (l : Fin 256) :
    (iblk m c 0 t : Vec Ideal S32x256 .f32) (ix2 e l)
      = (m ((c : Thread nD τ).loc main_arg0) : Vec Ideal S4096x32 .f32) (ix2 ⟨t.val * 256 + l.val, by omega⟩ e) := by
  have h : (V m c main_v16 : Vec Ideal S32x4096 .f32) (ix2 e ⟨t.val * 256 + l.val, by omega⟩)
      = (m ((c : Thread nD τ).loc main_arg0) : Vec Ideal S4096x32 .f32) (ix2 ⟨t.val * 256 + l.val, by omega⟩ e) := by
    rw [V_features]; pointwise
  rw [← h]
  blk_ext [iblk, idx t]

/-- The tables that a grid point is given. -/
theorem blk_tables (c : Dev nD) (t : Fin cfg0.N) (g : Fin 8) (o : Fin 1000) (k : Fin 256) :
    (iblk m c 4 t : Vec Ideal S8x1000x256 .f32) (ix3 g o k)
      = (m ((c : Thread nD τ).loc main_arg4) : Vec Ideal S8x256x1000 .f32) (ix3 g k o) := by
  have h : (V m c main_v15 : Vec Ideal S8x1000x256 .f32) (ix3 g o k)
      = (m ((c : Thread nD τ).loc main_arg4) : Vec Ideal S8x256x1000 .f32) (ix3 g k o) := by
    rw [V_tables]; pointwise
  rw [← h]
  blk_ext [iblk, idx t]

/-- The candidate rows that a grid point reads. -/
theorem blk_candidates (c : Dev nD) (t : Fin cfg0.N) (d : Fin 30) (k : Fin 256) :
    (iblk m c 3 t : Vec Ideal S30x256 .f32) (ix2 d k)
      = (m ((c : Thread nD τ).loc main_arg2) : Vec Ideal S30x256 .f32) (ix2 d k) := by
  rw [← V_main_arg2 m c]
  blk_ext [iblk, idx t]

/-- The sign array of a grid point, at the 30 rows of a group, holds the signs of the mathematics. -/
theorem sign_block (c : Dev nD) (t : Fin cfg0.N) (ht : t.val < 16) (g : Fin 8) (d : Fin 30) (l : Fin 256) :
    k0_pay11 (F := Ideal) (iblk m c 1 t) (iblk m c 0 t) (iblk m c 2 t) (ix2 ⟨g.val * 32 + d.val, by omega⟩ l)
      = Cert.Spec.bit (fun b e => (m ((c : Thread nD τ).loc main_arg0) : Vec Ideal S4096x32 .f32) (ix2 b e))
          (fun p f q => (m ((c : Thread nD τ).loc main_arg1) : Vec Ideal S16x2x15 .f32) (ix3 p f q))
          (fun p q => (m ((c : Thread nD τ).loc main_arg3) : Vec Ideal S16x15 .f32) (ix2 p q))
          ⟨t.val * 256 + l.val, by omega⟩ g d := by
  rw [sign_apply, blk_thresholds, thresholds_apply]
  simp only [blk_weights m c t, blk_features m c t ht]
  rw [weights_sum _ (fun e => (m ((c : Thread nD τ).loc main_arg0) : Vec Ideal S4096x32 .f32)
    (ix2 ⟨t.val * 256 + l.val, by omega⟩ e))]
  rfl

/-- What each grid point leaves in its output block is the mathematics at the point's 256 rows. -/
theorem out_value (c : Dev nD) (t : Fin cfg0.N) (ht : t.val < 16) (g : Fin 8) (o : Fin 1000) (l : Fin 256) :
    entry (k0_pay11 (F := Ideal) (iblk m c 1 t) (iblk m c 0 t) (iblk m c 2 t)) (iblk m c 3 t)
      (iblk m c 4 ⟨0, Nat.lt_of_le_of_lt (Nat.zero_le _) t.isLt⟩) g o l = goal m c ⟨t.val * 256 + l.val, by omega⟩ g o := by
  unfold entry goal Cert.Spec.value Cert.Spec.winner
  refine Finset.sum_congr rfl fun k _ => ?_
  rw [blk_tables]
  simp only [sign_block m c t ht, blk_candidates m c t]

/-- The mathematics depends on the values of its indices. -/
theorem goal_congr (c : Dev nD) {b b' : Fin 4096} {g g' : Fin 8} {o o' : Fin 1000} (hb : b.val = b'.val) (hg : g.val = g'.val)
    (ho : o.val = o'.val) : goal m c b g o = goal m c b' g' o' := by
  rw [Fin.ext hb, Fin.ext hg, Fin.ext ho]

/-- What each grid point leaves at an index of its output block is the mathematics at the index of the array. -/
theorem point (c : Dev nD) (t : Fin cfg0.N) (y : S8x1000x256.Idx) (b : Fin 4096) (g : Fin 8) (o : Fin 1000)
    (hb : b.val = t.val * 256 + (y 2).val) (hg : g.val = (y 0).val) (ho : o.val = (y 1).val) :
    (outsAt0 m c t.val t.isLt).1 y = goal m c b g o := by
  have ht : t.val < 16 := lt_of_lt_of_eq t.isLt N_0
  rw [out m c t]
  exact (out_value m c t ht (y 0) (y 1) (y 2)).trans (goal_congr m c hb.symm hg.symm ho.symm)

/-- The output array after the kernel. -/
theorem final (c : Dev nD) : (dats m 0 c).arrAt 5 (cfgs 0).N
    = (fun i => goal m c (i 2) (i 0) (i 1) : Vec Ideal S8x1000x4096 .f32) := by
  refine (dats m 0 c).arrAt_eq_of_covers 5 _ (by decide +kernel) fun t hf y => ?_
  blk_simp
  rw [after0_5]
  refine point m c t y _ _ _ ?_ ?_ ?_
  · blk_simp [idx t]
  · blk_simp [idx t]
  · blk_simp [idx t]

end Cert.KernelIdeal.Value

end
-- ==== Proof.Tail.lean ====
/- The kernel's result: the output array with its axes reordered, as the operation after the kernel leaves it. -/
module

public import proofs.«01_k».proof.Proof.Final
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The kernel's result is the output array with the batch axis moved to the front. -/
theorem tail (c : Dev nD) : Pipeline.afterTail₀ cfgs (dats m) 0 (V0 m) [hostOps1] c main_v18
    = transpose S4096x8x1000 [2, 0, 1] ((dats m 0 c).arrAt 5 (cfgs 0).N) transposes_S8x1000x4096_S4096x8x1000_2_0_1 := by
  unfold Pipeline.afterTail₀
  simp only [List.flatten_cons, List.flatten_nil, List.append_nil]
  unfold hostOps1
  after_results
  exact congrArg (fun v => transpose S4096x8x1000 [2, 0, 1] v transposes_S8x1000x4096_S4096x8x1000_2_0_1)
    (Pipeline.withArrays_arr (cfgs 0).spec (by decide) c (V0 m c) (fun w => (dats m 0 c).arrAt w (cfgs 0).N) 5)

/-- The kernel's result at batch row `b`, group `g` and output `o` is the specified value there. -/
theorem result_goal (c : Dev nD) (b : Fin 4096) (g : Fin 8) (o : Fin 1000) :
    (Pipeline.afterTail₀ cfgs (dats m) 0 (V0 m) [hostOps1] c main_v18 : Vec Ideal S4096x8x1000 .f32) (ix3 b g o)
      = goal m c b g o := by
  rw [tail, final]
  pointwise

end Cert.KernelIdeal.Value

end
-- ==== Proof.lean ====
/- The claims: the three programs run and leave their arguments alone, the kernel's idealization keeps the kernel's meaning, and
   on extended reals the kernel and the reference end with the same result. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.RefValue
public import proofs.«01_k».proof.Proof.Tail
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The kernel's program on words runs to the end, leaves its arguments as they were, and leaves every counter at zero. -/
theorem quiescent_kernel : Cert.quiescent_Kernel (hKernel := Cert.Kernel.Gen.facts) := fun m ρ _ => Cert.Kernel.Gen.frame m ρ

/-- The kernel's idealization does so too. -/
theorem quiescent_kernelIdeal : Cert.quiescent_KernelIdeal (hKernelIdeal := Cert.KernelIdeal.Gen.facts) := fun m ρ _ => Cert.KernelIdeal.Gen.frame m ρ

/-- The reference's idealization does so too. -/
theorem quiescent_referenceIdeal : Cert.quiescent_ReferenceIdeal (hReferenceIdeal := Cert.ReferenceIdeal.Gen.facts) := by
  intro m ρ _
  hlo_run
  · exact fun _ => ⟨trivial, trivial, trivial, trivial, trivial⟩
  · exact sem_eq_zero_of_no_sems (sig := Cert.ReferenceIdeal.sig) (by decide) _

/-- The kernel's idealization is the kernel with the sign of a number read by comparison instead of by its sign bit. -/
theorem preserves : Cert.preserves_Kernel_KernelIdeal := IdealRules.sign_bit.statement _ _

/-- The reference's term over the arguments is the kernel's result. -/
theorem same (m : (ℓ : Loc Cert.KernelIdeal.nD Cert.KernelIdeal.τ Cert.KernelIdeal.sig) → Buf (Elt Ideal) ℓ)
    (c : Dev Cert.KernelIdeal.nD) :
    Cert.ReferenceIdeal.Value.result (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4))
    = Pipeline.afterTail₀ Cert.KernelIdeal.cfgs (Cert.KernelIdeal.Gen.dats m) 0 (Cert.KernelIdeal.Gen.V0 m)
        [Cert.KernelIdeal.Gen.hostOps1] c Cert.KernelIdeal.main_v18 := by
  funext i
  have e : i = ix3 (n0 := 4096) (n1 := 8) (n2 := 1000) (i 0) (i 1) (i 2) := by
    funext a; fin_cases a <;> rfl
  rw [e]
  exact (Cert.ReferenceIdeal.Value.result_value _ _ _ _ _ (i 0) (i 1) (i 2)).trans
    (Cert.KernelIdeal.Value.result_goal m c (i 0) (i 1) (i 2)).symm

/-- On extended reals, from memories that agree on the arguments, the kernel and the reference end with the same result. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.unchanged m g & Cert.KernelIdeal.Gen.run_main m g
  · hlo_run
    generalize hA : (fun j => (Host.argReduce (F := Ideal) (φ := .f32) _ _ _ _ _ _ _ j).2) = A
    simp -implicitDefEqProofs only [StableHlo.TRef.ofBuf_toBuf]
    simp -implicitDefEqProofs only [StableHlo.TRef.toBuf, StableHlo.TRef.ofBuf, cast_eq]
    refine Eq.trans (b := Cert.ReferenceIdeal.Value.lookup (m ((c.tc : Thread _ _).loc Cert.KernelIdeal.main_arg4)) A) rfl ?_
    have e : A = Cert.ReferenceIdeal.Value.pick (Cert.ReferenceIdeal.Value.scores
        (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3))) := by
      refine Cert.ReferenceIdeal.Value.position_of hA ?_ ?_ ?_ ?_
      all_goals
        clear hA
        simp -implicitDefEqProofs only [StableHlo.TRef.ofBuf_toBuf, StableHlo.TRef.ofBuf, cast_eq]
        try rfl
    rw [e]
    exact same m c

/-- Everything the certificate claims. -/
theorem claim : Cert.Claim := ⟨Cert.Kernel.Gen.facts, Cert.KernelIdeal.Gen.facts, Cert.ReferenceIdeal.Gen.facts,
  quiescent_kernel, quiescent_kernelIdeal, quiescent_referenceIdeal, preserves, algebraic⟩

end Cert.Proof

end
